-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x5120 : Shape := ⟨3, ![192, 1, 5120]⟩
abbrev S192x1x1 : Shape := ⟨3, ![192, 1, 1]⟩
abbrev S5120x5120 : Shape := ⟨2, ![5120, 5120]⟩
abbrev S5120 : Shape := ⟨1, ![5120]⟩
abbrev S192x5120 : Shape := ⟨2, ![192, 5120]⟩
abbrev S192x1 : Shape := ⟨2, ![192, 1]⟩
abbrev S1x5120 : Shape := ⟨2, ![1, 5120]⟩
abbrev S5120x512 : Shape := ⟨2, ![5120, 512]⟩
abbrev S1x512 : Shape := ⟨2, ![1, 512]⟩
abbrev S192x512 : Shape := ⟨2, ![192, 512]⟩

abbrev nBuf : Space → Nat
  | .hbm => 9
  | .vmem => 8
  | .smem => 0
  | _ => 0

abbrev bufTy : (tb : Table) → Fin (tcTables nBuf tb) → BufTy
  | .hbm, ⟨0, _⟩ => ⟨S192x1x5120, .fp8e4m3⟩
  | .hbm, ⟨1, _⟩ => ⟨S192x1x1, .f32⟩
  | .hbm, ⟨2, _⟩ => ⟨S5120x5120, .fp8e4m3⟩
  | .hbm, ⟨3, _⟩ => ⟨S5120, .f32⟩
  | .hbm, ⟨4, _⟩ => ⟨S192x5120, .fp8e4m3⟩
  | .hbm, ⟨5, _⟩ => ⟨S192x1, .f32⟩
  | .hbm, ⟨6, _⟩ => ⟨S1x5120, .f32⟩
  | .hbm, ⟨7, _⟩ => ⟨S192x5120, .bf16⟩
  | .hbm, ⟨8, _⟩ => ⟨S192x1x5120, .bf16⟩
  | .local _ .vmem, ⟨0, _⟩ => ⟨S192x5120, .fp8e4m3⟩
  | .local _ .vmem, ⟨1, _⟩ => ⟨S192x1, .f32⟩
  | .local _ .vmem, ⟨2, _⟩ => ⟨S5120x512, .fp8e4m3⟩
  | .local _ .vmem, ⟨3, _⟩ => ⟨S5120x512, .fp8e4m3⟩
  | .local _ .vmem, ⟨4, _⟩ => ⟨S1x512, .f32⟩
  | .local _ .vmem, ⟨5, _⟩ => ⟨S1x512, .f32⟩
  | .local _ .vmem, ⟨6, _⟩ => ⟨S192x512, .bf16⟩
  | .local _ .vmem, ⟨7, _⟩ => ⟨S192x512, .bf16⟩
  | _, _ => ⟨S192x1x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x5120 : Shape := ⟨3, ![192, 1, 5120]⟩
abbrev S192x1x1 : Shape := ⟨3, ![192, 1, 1]⟩
abbrev S5120x5120 : Shape := ⟨2, ![5120, 5120]⟩
abbrev S5120 : Shape := ⟨1, ![5120]⟩
abbrev S1x1x5120 : Shape := ⟨3, ![1, 1, 5120]⟩

abbrev nBuf : Space → Nat
  | .hbm => 5
  | .vmem => 5
  | .smem => 0
  | _ => 0

abbrev bufTy : (tb : Table) → Fin (tcTables nBuf tb) → BufTy
  | .hbm, ⟨0, _⟩ => ⟨S192x1x5120, .fp8e4m3⟩
  | .hbm, ⟨1, _⟩ => ⟨S192x1x1, .f32⟩
  | .hbm, ⟨2, _⟩ => ⟨S5120x5120, .fp8e4m3⟩
  | .hbm, ⟨3, _⟩ => ⟨S5120, .f32⟩
  | .hbm, ⟨4, _⟩ => ⟨S192x1x5120, .bf16⟩
  | .local _ .vmem, ⟨0, _⟩ => ⟨S192x1x5120, .fp8e4m3⟩
  | .local _ .vmem, ⟨1, _⟩ => ⟨S192x1x1, .f32⟩
  | .local _ .vmem, ⟨2, _⟩ => ⟨S5120x5120, .fp8e4m3⟩
  | .local _ .vmem, ⟨3, _⟩ => ⟨S5120, .f32⟩
  | .local _ .vmem, ⟨4, _⟩ => ⟨S192x1x5120, .bf16⟩
  | _, _ => ⟨S192x1x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S192x1x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x1x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/-
  THE FUNCTION that both programs compute, over the extended reals: an 8-bit linear layer whose product is scaled once per
  token and once per output channel.
-/
module

public import proofs.«01_k».proof.Defs
public import Idealize.ShloMosaic.Lib.Pointwise

@[expose] public section

noncomputable section

namespace Cert.Proof

open Idealize.ShloMosaic Cert.ReferenceIdeal

/-- The scaled linear layer: at token `t` and output channel `n`, the sum over `k` of `x[t,0,k] * w[k,n]`, times the
    token's scale `xs[t,0,0]`, times the channel's scale `ws[n]`. -/
def linear (x : Vec Ideal S192x1x5120 .fp8e4m3) (xs : Vec Ideal S192x1x1 .f32) (w : Vec Ideal S5120x5120 .fp8e4m3)
    (ws : Vec Ideal S5120 .f32) : FVec Ideal S192x1x5120 .bf16 := fun i =>
  ((∑ k : Fin 5120, (x (ix3 (i 0) (i 1) k) : EReal) * (w (ix2 k (i 2)) : EReal)) * (xs (ix3 (i 0) 0 0) : EReal)
    * (ws (ix1 (i 2)) : EReal) : EReal)

end Cert.Proof

end
-- ==== Proof.KernelValue.lean ====
/-
  THE KERNEL'S RUN WITH ITS VALUE, over the extended reals: its result ends as the scaled linear layer of its four
  arguments, which end unchanged. The kernel works on the operands with the sequence axis dropped, writes 512 output
  channels per grid point, and puts the axis back at the end.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.Proof.KernelValue

open Idealize.ShloMosaic Idealize.SL.Sem Cert.KernelIdeal
open Cert.KernelIdeal.Gen Idealize.ShloMosaic.TcCoe
open Idealize.ShloMosaic.Pipeline (Dat Cfg Window)

variable (m : (ℓ : Loc nD τ sig) → Buf (Elt Ideal) ℓ) (ρ : Dev nD → PrngReg)

/-- The scaled linear layer with the sequence axis dropped from the result: what the kernel's region leaves. -/
def flat (x : Vec Ideal S192x1x5120 .fp8e4m3) (xs : Vec Ideal S192x1x1 .f32) (w : Vec Ideal S5120x5120 .fp8e4m3)
    (ws : Vec Ideal S5120 .f32) : FVec Ideal S192x5120 .bf16 := fun i => linear x xs w ws (ix3 (i 0) 0 (i 1))

/-- The block of `x` starts at the origin at every point: it is the whole operand. -/
theorem idx0 : ∀ t, win0_0.index t = ![0, 0] := by decide +kernel
/-- Likewise the block of the token scales. -/
theorem idx1 : ∀ t, win0_1.index t = ![0, 0] := by decide +kernel
/-- The block of the weights at a point is the point's own 512 columns. -/
theorem idx2 : ∀ t, win0_2.index t = ![0, t.val] := by decide +kernel
/-- The block of the channel scales at a point is the point's own 512 channels. -/
theorem idx3 : ∀ t, win0_3.index t = ![0, t.val] := by decide +kernel
/-- The result's block at a point is the point's own 512 columns. -/
theorem idx4 : ∀ t, win0_4.index t = ![0, t.val] := by decide +kernel

/-- Dropping the sequence axis of `x`, at an element. -/
theorem drop_x (x : Vec Ideal S192x1x5120 .fp8e4m3) (h : S192x1x5120.numel = S192x5120.numel) :
    shapeCast S192x5120 x h = fun i => x (ix3 (i 0) 0 (i 1)) := by
  funext i
  pointwise
/-- Dropping the sequence axis of the token scales, at an element. -/
theorem drop_xs (x : Vec Ideal S192x1x1 .f32) (h : S192x1x1.numel = S192x1.numel) :
    shapeCast S192x1 x h = fun i => x (ix3 (i 0) 0 0) := by
  funext i
  pointwise
/-- The channel scales as one row, at an element. -/
theorem row_ws (x : Vec Ideal S5120 .f32) (h : S5120.numel = S1x5120.numel) :
    shapeCast S1x5120 x h = fun i => x (ix1 (i 1)) := by
  funext i
  pointwise

/-- The region finds in its first operand the array `x` with the sequence axis dropped. -/
theorem entry_x (c : Dev nD) :
    V m c main_v0 = fun i => m ((c : Thread nD τ).loc main_arg0) (ix3 (i 0) 0 (i 1)) := by
  refine Eq.trans ?_ (drop_x (m ((c : Thread nD τ).loc main_arg0)) shapeCasts_S192x1x5120_S192x5120)
  show StableHlo.after hostOps0 (fun b => m (c, b)) (Proc.devRef .tc main_v0) = _
  unfold hostOps0
  after_results
  rfl
/-- It finds in its second operand the token scales with the sequence axis dropped. -/
theorem entry_xs (c : Dev nD) :
    V m c main_v1 = fun i => m ((c : Thread nD τ).loc main_arg1) (ix3 (i 0) 0 0) := by
  refine Eq.trans ?_ (drop_xs (m ((c : Thread nD τ).loc main_arg1)) shapeCasts_S192x1x1_S192x1)
  show StableHlo.after hostOps0 (fun b => m (c, b)) (Proc.devRef .tc main_v1) = _
  unfold hostOps0
  after_results
  rfl
/-- It finds in its fourth operand the channel scales as one row. -/
theorem entry_ws (c : Dev nD) :
    V m c main_v2 = fun i => m ((c : Thread nD τ).loc main_arg3) (ix1 (i 1)) := by
  refine Eq.trans ?_ (row_ws (m ((c : Thread nD τ).loc main_arg3)) shapeCasts_S5120_S1x5120)
  show StableHlo.after hostOps0 (fun b => m (c, b)) (Proc.devRef .tc main_v2) = _
  unfold hostOps0
  after_results
  rfl

/-- What the body stores at a point, at one element: the scaled linear layer at that element's place in the array. -/
theorem point (c : Dev nD) (t : Fin cfg0.N) (y : ((cfg0.win 4).xblock (cfg0.grid.coords t)).Idx) :
    k0_pay1 (iblk m c 0 t) (iblk m c 2 t) (iblk m c 1 t) (iblk m c 3 t) y
      = flat (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, flat, linear]
  blk_point [iblk, V, idx0 t, idx1 t, idx2 t, idx3 t, idx4 t]
  · rw [entry_x]
    blk_ext [idx0 t, idx4 t]
  · rw [entry_xs]
    blk_ext [idx1 t, idx4 t]
  · rw [entry_ws]
    blk_ext [idx3 t, idx4 t]

/-- The region's array after the run is the scaled linear layer of the arguments as launched, sequence axis dropped. -/
theorem region_eq (c : Dev nD) :
    (dats (F := Ideal) m 0 c).arrAt 4 (cfgs 0).N
      = flat (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point m c t y

/-- The last operation of @main puts the sequence axis back into the region's array. -/
theorem tail_eq (c : Dev nD) :
    Pipeline.afterTail₀ cfgs (dats (F := Ideal) m) 0 (V0 m) [hostOps1] c main_v4
      = shapeCast S192x1x5120 ((dats (F := Ideal) m 0 c).arrAt 4 (cfgs 0).N) shapeCasts_S192x5120_S192x1x5120 := by
  have h := Pipeline.withArrays_arr spec0 launch0.win.arr_inj c (V0 m c) (fun w => (dats (F := Ideal) m 0 c).arrAt w (cfgs 0).N) 4
  rw [← h]
  unfold Pipeline.afterTail₀ hostOps1
  after_results
  rfl

/-- Putting the sequence axis back into the flat result gives the scaled linear layer. -/
theorem unflatten (x : Vec Ideal S192x1x5120 .fp8e4m3) (xs : Vec Ideal S192x1x1 .f32) (w : Vec Ideal S5120x5120 .fp8e4m3)
    (ws : Vec Ideal S5120 .f32) :
    shapeCast S192x1x5120 (flat x xs w ws) shapeCasts_S192x5120_S192x1x5120 = linear x xs w ws := by
  funext i
  have h : i 1 = (0 : Fin 1) := Subsingleton.elim (α := Fin 1) _ _
  pointwise [flat, linear]
  rw [h]

/-- The run's result: the scaled linear layer of the arguments as launched. -/
theorem result_eq (c : Dev nD) :
    Pipeline.afterTail₀ cfgs (dats (F := Ideal) m) 0 (V0 m) [hostOps1] c main_v4
      = linear (m ((c : Thread nD τ).loc main_arg0)) (m ((c : Thread nD τ).loc main_arg1))
          (m ((c : Thread nD τ).loc main_arg2)) (m ((c : Thread nD τ).loc main_arg3)) := by
  rw [tail_eq, region_eq]
  exact unflatten _ _ _ _

/-- The run: the result is the scaled linear layer of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v4)
      = linear (m ((c.tc : Thread nD τ).loc main_arg0)) (m ((c.tc : Thread nD τ).loc main_arg1))
          (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from run_main m ρ
  · exact result_eq m c
  · exact W_main_arg0 m (dats m) c
  · exact W_main_arg1 m (dats m) c
  · exact W_main_arg3 m (dats m) c

end Cert.Proof.KernelValue

end
-- ==== Proof.ReferenceValue.lean ====
/-
  THE REFERENCE'S RUN WITH ITS VALUE, over the extended reals: its result ends as the scaled linear layer of its four
  arguments, which end unchanged.
-/
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.Proof.ReferenceValue

open Idealize.ShloMosaic Idealize.SL.Sem Cert.ReferenceIdeal
open Cert.ReferenceIdeal.Gen Idealize.ShloMosaic.TcCoe
open Idealize.ShloMosaic.Pipeline (Dat Cfg Window)

variable (m : (ℓ : Loc nD τ sig) → Buf (Elt Ideal) ℓ) (ρ : Dev nD → PrngReg)

/-- What the body stores, at one element: the scaled linear layer of what it loads. -/
theorem payload_eq (x : Vec Ideal S192x1x5120 .fp8e4m3) (xs : Vec Ideal S192x1x1 .f32)
    (w : Vec Ideal S5120x5120 .fp8e4m3) (ws : Vec Ideal S5120 .f32) : k0_pay1 x xs w ws = linear x xs w ws := by
  funext i
  pointwise [k0_pay1, linear]

/-- At the one grid point the block of `x` starts at the origin: it is the whole array. -/
theorem idx0 : ∀ t, win0_0.index t = ![0, 0, 0] := by decide +kernel
/-- Likewise the block of the token scales. -/
theorem idx1 : ∀ t, win0_1.index t = ![0, 0, 0] := by decide +kernel
/-- Likewise the block of the weights. -/
theorem idx2 : ∀ t, win0_2.index t = ![0, 0] := by decide +kernel
/-- Likewise the block of the channel scales. -/
theorem idx3 : ∀ t, win0_3.index t = ![0] := by decide +kernel
/-- Likewise the result's block. -/
theorem idx4 : ∀ t, win0_4.index t = ![0, 0, 0] := by decide +kernel

/-- The result array after the run is the scaled linear layer of the arguments as launched. -/
theorem result_eq (c : Dev nD) :
    (dats (F := Ideal) m 0 c).arrAt 4 (cfgs 0).N
      = linear (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [payload_eq]
  blk_point [linear, iblk, V, idx0 t, idx1 t, idx2 t, idx3 t, idx4 t]

/-- The run: the result is the scaled linear layer of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v0)
      = linear (m ((c.tc : Thread nD τ).loc main_arg0)) (m ((c.tc : Thread nD τ).loc main_arg1))
          (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from run_main m ρ
  exact result_eq m c

end Cert.Proof.ReferenceValue

end
-- ==== Proof.lean ====
/-
  The proof of `Cert.Claim` (proofs.«01_k».proof.Defs): the frames of the three programs are the generated ones; that the
  kernel and its idealization agree is trivial, no rule having been applied; and the kernel and the reference compute the
  same result over the extended reals, both runs ending at `linear` (Proof/Spec.lean) of the same arguments.
-/
module

public import proofs.«01_k».proof.Defs
public import proofs.«01_k».proof.Proof.Gen.Kernel.Frame
public import proofs.«01_k».proof.Proof.KernelValue
public import proofs.«01_k».proof.Proof.ReferenceValue

@[expose] public section

noncomputable section

namespace Cert.Proof

open Idealize.ShloMosaic Idealize.SL.Sem

/-- Over the extended reals the kernel and the reference, run on equal arguments, end with equal results: each result is
    the scaled linear layer of the arguments. The arguments end unchanged. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨fun c => linear (m (c.tc.loc Cert.KernelIdeal.main_arg0)) (m (c.tc.loc Cert.KernelIdeal.main_arg1))
    (m (c.tc.loc Cert.KernelIdeal.main_arg2)) (m (c.tc.loc Cert.KernelIdeal.main_arg3)), KernelValue.run m g, ?_⟩
  refine (θ_run (Cert.ReferenceIdeal.defs (F := Ideal)) _ _).mono (fun r h c => ?_) (ReferenceValue.run m' g')
  obtain ⟨hv, hrest⟩ := h c
  refine ⟨hv.trans ?_, hrest⟩
  obtain ⟨h0, h1, h2, h3⟩ := hargs c
  rw [h0, h1, h2, h3]

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
